-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_sqrt_two" .f32 0x3F3504F3#32 (((Real.sqrt 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x1000 : Shape := ⟨2, ![16384, 1000]⟩
abbrev S1000x64 : Shape := ⟨2, ![1000, 64]⟩
abbrev S64 : Shape := ⟨1, ![64]⟩
abbrev S1000x16384 : Shape := ⟨2, ![1000, 16384]⟩
abbrev S64x1000 : Shape := ⟨2, ![64, 1000]⟩
abbrev S1x64 : Shape := ⟨2, ![1, 64]⟩
abbrev S64x16384 : Shape := ⟨2, ![64, 16384]⟩
abbrev S1000 : Shape := ⟨1, ![1000]⟩
abbrev S16384x64 : Shape := ⟨2, ![16384, 64]⟩
abbrev S1000x2048 : Shape := ⟨2, ![1000, 2048]⟩
abbrev S64x2048 : Shape := ⟨2, ![64, 2048]⟩
abbrev S1x1000 : Shape := ⟨2, ![1, 1000]⟩
abbrev S2048 : Shape := ⟨1, ![2048]⟩
abbrev S1x2048 : Shape := ⟨2, ![1, 2048]⟩
abbrev S64x1 : Shape := ⟨2, ![64, 1]⟩

abbrev nBuf : Space → Nat
  | .hbm => 11
  | .vmem => 8
  | .smem => 0
  | _ => 0

abbrev bufTy : (tb : Table) → Fin (tcTables nBuf tb) → BufTy
  | .hbm, ⟨0, _⟩ => ⟨S16384x1000, .f32⟩
  | .hbm, ⟨1, _⟩ => ⟨S1000x64, .f32⟩
  | .hbm, ⟨2, _⟩ => ⟨S64, .f32⟩
  | .hbm, ⟨3, _⟩ => ⟨S64, .f32⟩
  | .hbm, ⟨4, _⟩ => ⟨S1000x16384, .f32⟩
  | .hbm, ⟨5, _⟩ => ⟨S64x1000, .f32⟩
  | .hbm, ⟨6, _⟩ => ⟨S1x64, .f32⟩
  | .hbm, ⟨7, _⟩ => ⟨S1x64, .f32⟩
  | .hbm, ⟨8, _⟩ => ⟨S64x16384, .f32⟩
  | .hbm, ⟨9, _⟩ => ⟨S1000, .i32⟩
  | .hbm, ⟨10, _⟩ => ⟨S16384x64, .f32⟩
  | .local _ .vmem, ⟨0, _⟩ => ⟨S1000x2048, .f32⟩
  | .local _ .vmem, ⟨1, _⟩ => ⟨S1000x2048, .f32⟩
  | .local _ .vmem, ⟨2, _⟩ => ⟨S64x1000, .f32⟩
  | .local _ .vmem, ⟨3, _⟩ => ⟨S1x64, .f32⟩
  | .local _ .vmem, ⟨4, _⟩ => ⟨S1x64, .f32⟩
  | .local _ .vmem, ⟨5, _⟩ => ⟨S64x2048, .f32⟩
  | .local _ .vmem, ⟨6, _⟩ => ⟨S64x2048, .f32⟩
  | .local _ .vmem, ⟨7, _⟩ => ⟨S1000, .i32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4_0 : Ref sig .tc := ⟨.hbm, 8, rfl⟩
abbrev main_v0_1 : Ref sig .tc := ⟨.hbm, 9, rfl⟩
abbrev main_v0_0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S1000x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1000 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
variable {F : FTy → Type} [FloatOps F] [Named F]
def κ : String → Option EReal := fun
  | "inv_sqrt_two" => some (((Real.sqrt 2)⁻¹ : ℝ) : EReal)
  | _ => none
-- ==== ReferenceIdeal.lean ====
abbrev S16384x1000 : Shape := ⟨2, ![16384, 1000]⟩
abbrev S1000x64 : Shape := ⟨2, ![1000, 64]⟩
abbrev S64 : Shape := ⟨1, ![64]⟩
abbrev S1000 : Shape := ⟨1, ![1000]⟩
abbrev S_ : Shape := ⟨0, ![]⟩
abbrev S1000x1 : Shape := ⟨2, ![1000, 1]⟩
abbrev S1 : Shape := ⟨1, ![1]⟩
abbrev S1x1 : Shape := ⟨2, ![1, 1]⟩
abbrev S16384x64 : Shape := ⟨2, ![16384, 64]⟩
abbrev S16384 : Shape := ⟨1, ![16384]⟩
abbrev S16384x1 : Shape := ⟨2, ![16384, 1]⟩
abbrev S1x64 : Shape := ⟨2, ![1, 64]⟩

abbrev nBuf : Space → Nat
  | .hbm => 68
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S1000x64, .f32⟩
  | .hbm, ⟨2, _⟩ => ⟨S64, .f32⟩
  | .hbm, ⟨3, _⟩ => ⟨S64, .f32⟩
  | .hbm, ⟨4, _⟩ => ⟨S1000, .i32⟩
  | .hbm, ⟨5, _⟩ => ⟨S_, .i32⟩
  | .hbm, ⟨6, _⟩ => ⟨S1000, .i32⟩
  | .hbm, ⟨7, _⟩ => ⟨S1000, .i1⟩
  | .hbm, ⟨8, _⟩ => ⟨S_, .i32⟩
  | .hbm, ⟨9, _⟩ => ⟨S1000, .i32⟩
  | .hbm, ⟨10, _⟩ => ⟨S1000, .i32⟩
  | .hbm, ⟨11, _⟩ => ⟨S1000, .i32⟩
  | .hbm, ⟨12, _⟩ => ⟨S1000x1, .i32⟩
  | .hbm, ⟨13, _⟩ => ⟨S1, .i32⟩
  | .hbm, ⟨14, _⟩ => ⟨S_, .i32⟩
  | .hbm, ⟨15, _⟩ => ⟨S1000x1, .i32⟩
  | .hbm, ⟨16, _⟩ => ⟨S1000x1, .i1⟩
  | .hbm, ⟨17, _⟩ => ⟨S1x1, .i32⟩
  | .hbm, ⟨18, _⟩ => ⟨S1000x1, .i32⟩
  | .hbm, ⟨19, _⟩ => ⟨S1000x1, .i1⟩
  | .hbm, ⟨20, _⟩ => ⟨S1000x1, .i1⟩
  | .hbm, ⟨21, _⟩ => ⟨S_, .i1⟩
  | .hbm, ⟨22, _⟩ => ⟨S1000, .i1⟩
  | .hbm, ⟨23, _⟩ => ⟨S1000x64, .f32⟩
  | .hbm, ⟨24, _⟩ => ⟨S1000x64, .i1⟩
  | .hbm, ⟨25, _⟩ => ⟨S_, .f32⟩
  | .hbm, ⟨26, _⟩ => ⟨S1000x64, .f32⟩
  | .hbm, ⟨27, _⟩ => ⟨S1000x64, .f32⟩
  | .hbm, ⟨28, _⟩ => ⟨S16384x64, .f32⟩
  | .hbm, ⟨29, _⟩ => ⟨S_, .f32⟩
  | .hbm, ⟨30, _⟩ => ⟨S16384x64, .f32⟩
  | .hbm, ⟨31, _⟩ => ⟨S16384x64, .f32⟩
  | .hbm, ⟨32, _⟩ => ⟨S16384x64, .f32⟩
  | .hbm, ⟨33, _⟩ => ⟨S_, .f32⟩
  | .hbm, ⟨34, _⟩ => ⟨S_, .f32⟩
  | .hbm, ⟨35, _⟩ => ⟨S16384x64, .f32⟩
  | .hbm, ⟨36, _⟩ => ⟨S16384x64, .f32⟩
  | .hbm, ⟨37, _⟩ => ⟨S16384x64, .f32⟩
  | .hbm, ⟨38, _⟩ => ⟨S16384x64, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x64, .f32⟩
  | .hbm, ⟨46, _⟩ => ⟨S16384x64, .f32⟩
  | .hbm, ⟨47, _⟩ => ⟨S16384x64, .f32⟩
  | .hbm, ⟨48, _⟩ => ⟨S_, .f32⟩
  | .hbm, ⟨49, _⟩ => ⟨S16384, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x64, .f32⟩
  | .hbm, ⟨55, _⟩ => ⟨S16384x64, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S16384x1, .f32⟩
  | .hbm, ⟨60, _⟩ => ⟨S16384x64, .f32⟩
  | .hbm, ⟨61, _⟩ => ⟨S16384x64, .f32⟩
  | .hbm, ⟨62, _⟩ => ⟨S1x64, .f32⟩
  | .hbm, ⟨63, _⟩ => ⟨S16384x64, .f32⟩
  | .hbm, ⟨64, _⟩ => ⟨S16384x64, .f32⟩
  | .hbm, ⟨65, _⟩ => ⟨S1x64, .f32⟩
  | .hbm, ⟨66, _⟩ => ⟨S16384x64, .f32⟩
  | .hbm, ⟨67, _⟩ => ⟨S16384x64, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v1 : Ref sig .tc := ⟨.hbm, 27, rfl⟩
abbrev main_v2 : Ref sig .tc := ⟨.hbm, 28, rfl⟩
abbrev main_cst : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_cst_0 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst_1 : Ref sig .tc := ⟨.hbm, 39, rfl⟩
abbrev main_v11 : Ref sig .tc := ⟨.hbm, 40, rfl⟩
abbrev main_v12 : Ref sig .tc := ⟨.hbm, 41, rfl⟩
abbrev main_cst_2 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_3 : Ref sig .tc := ⟨.hbm, 48, rfl⟩
abbrev main_v18 : Ref sig .tc := ⟨.hbm, 49, rfl⟩
abbrev main_v19 : Ref sig .tc := ⟨.hbm, 50, rfl⟩
abbrev main_cst_4 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_cst_5 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩

abbrev nD : Nat := 1
abbrev τ : Topo := Topo.v7x

variable {F : FTy → Type} [FloatOps F]
-- ==== Proof.Body.lean ====
/-
  What one grid step of the kernel does to its staging buffers, whatever their addresses: the four input buffers keep
  their contents, the block of the normalised product is stored whole, and the index vector is stored at the first step
  only, every other step leaving its buffer alone.
-/
module

public import proofs.«01_k».proof.Proof.Gen.KernelIdeal.Frame
public import proofs.«01_k».proof.Proof.Gen.KernelIdeal.Skeleton
public import Idealize.ShloMosaic.Lib.Pipeline.Value

@[expose] public section

set_option maxRecDepth 16384

noncomputable section

namespace Cert.Proof.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The block a step stores: scale and bias applied to the quotient of the centred activations by their deviation,
    all computed from the step's blocks of the transposed input, the transposed table, the scale and the bias. -/
def outBlk (x0 : Vec F S1000x2048 .f32) (x1 : Vec F S64x1000 .f32) (x2 x3 : Vec F S1x64 .f32) : Vec F S64x2048 .f32 :=
  k0_pay1 (k0_pay5 x2) (k0_pay6 x3) (k0_pay7 x0 x1) (k0_pay8 x0 x1)

/-- The index vector the first step stores. -/
def idxBlk : Vec F S1000 .i32 := k0_pay2

/-- The offsets of a whole rank-two access are zero. -/
theorem hz2 : (![0, 0] : Fin 2 → Nat) = fun _ => 0 := funext fun a => by fin_cases a <;> rfl

/-- The offset of a whole rank-one access is zero. -/
theorem hz1 : (![0] : Fin 1 → Nat) = fun _ => 0 := funext fun a => by fin_cases a; rfl

/-- The one store of the output block covers its buffer. -/
theorem cover4 (p : Vec F S64x2048 .f32) (y : S64x2048.Idx) :
    ∃ pc ∈ ([⟨Rect.unit (s := S64x2048) ![0, 0] S64x2048.size inb_S64x2048_S64x2048_0_0, p⟩] : List (View.Piece (Elt F) S64x2048 .f32)), y ∈ pc.1.set :=
  View.cover_of_tiled [⟨Rect.unit (s := S64x2048) ![0, 0] S64x2048.size inb_S64x2048_S64x2048_0_0, p⟩] S64x2048.size (by rfl) y

/-- The one store of the index vector covers its buffer. -/
theorem cover5 (p : Vec F S1000 .i32) (y : S1000.Idx) :
    ∃ pc ∈ ([⟨Rect.unit (s := S1000) ![0] S1000.size inb_S1000_S1000_0, p⟩] : List (View.Piece (Elt F) S1000 .i32)), y ∈ pc.1.set :=
  View.cover_of_tiled [⟨Rect.unit (s := S1000) ![0] S1000.size inb_S1000_S1000_0, p⟩] S1000.size (by rfl) y

set_option maxHeartbeats 1000000 in
/-- The first step: from the inputs' buffers at their contents and the outputs' at anything, the body ends with the
    inputs' as they were, the output block stored and the index vector stored. -/
theorem first_step (c : Dev nD) (i : grid0.Coords) (arg1 : Memref sig .tc .vmem S1000x2048 .f32) (harg1 : arg1.IsWhole) (arg2 : Memref sig .tc .vmem S64x1000 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x2048 .f32) (harg5 : arg5.IsWhole) (arg6 : Memref sig .tc .vmem S1000 .i32) (harg6 : arg6.IsWhole) (hc0 : k0_cond1 i = 1#1)
    (x0 : Vec F S1000x2048 .f32) (x1 : Vec F S64x1000 .f32) (x2 : Vec F S1x64 .f32) (x3 : Vec F S1x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outBlk x0 x1 x2 x3) ∗ owns (c : Thread nD τ) arg6 fullShare (idxBlk (F := F))) -∗ K ⟨⟩))
      ⊢ wp frame (wpE (defs₀ (F := F)) Variants.none c none) E (cc0__fused_kernel i arg1 harg1 arg2 harg2 arg3 harg3 arg4 harg4 arg5 harg5 arg6 harg6) K := by
  simp only [cc0__fused_kernel_eq_skeleton]; unfold cc0__fused_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr; swap; · iexact H4
    ipureintro
    refine (View.read_writes_eq_canon _ _ _ (cover4 _)).trans ?_
    rw [View.canon_unit_zero hz2]
    unfold first_step.sl.r first_step.sl.r_1 first_step.sl.r_2 first_step.sl.r_3 outBlk
    simp only [View.readAt_eq_ld, View.ld_unit_zero (S := S1000x2048) hz2, View.ld_unit_zero (S := S64x1000) hz2, View.ld_unit_zero (S := S1x64) hz2]
  iexists _; isplitr; swap; · iexact H5
  ipureintro
  refine (View.read_writes_eq_canon _ _ _ (cover5 _)).trans ?_
  rw [View.canon_unit_zero hz1]
  rfl

set_option maxHeartbeats 1000000 in
/-- Every later step: the same, but the index vector's buffer ends with the contents it had. -/
theorem later_step (c : Dev nD) (i : grid0.Coords) (arg1 : Memref sig .tc .vmem S1000x2048 .f32) (harg1 : arg1.IsWhole) (arg2 : Memref sig .tc .vmem S64x1000 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x2048 .f32) (harg5 : arg5.IsWhole) (arg6 : Memref sig .tc .vmem S1000 .i32) (harg6 : arg6.IsWhole) (hc0 : ¬k0_cond1 i = 1#1)
    (x0 : Vec F S1000x2048 .f32) (x1 : Vec F S64x1000 .f32) (x2 : Vec F S1x64 .f32) (x3 : Vec F S1x64 .f32) (x5 : Vec F S1000 .i32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare x5
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outBlk x0 x1 x2 x3) ∗ owns (c : Thread nD τ) arg6 fullShare x5) -∗ K ⟨⟩))
      ⊢ wp frame (wpE (defs₀ (F := F)) Variants.none c none) E (cc0__fused_kernel i arg1 harg1 arg2 harg2 arg3 harg3 arg4 harg4 arg5 harg5 arg6 harg6) K := by
  simp only [cc0__fused_kernel_eq_skeleton]; unfold cc0__fused_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0 hf1 hf2 hf3 hf5
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr; swap; · iexact H4
    ipureintro
    refine (View.read_writes_eq_canon _ _ _ (cover4 _)).trans ?_
    rw [View.canon_unit_zero hz2]
    unfold later_step.sl.r later_step.sl.r_1 later_step.sl.r_2 later_step.sl.r_3 outBlk
    simp only [View.readAt_eq_ld, View.ld_unit_zero (S := S1000x2048) hz2, View.ld_unit_zero (S := S64x1000) hz2, View.ld_unit_zero (S := S1x64) hz2]
  iexists f5; isplitr; · ipureintro; rfl
  iexact H5

end Cert.Proof.Body

end
-- ==== Proof.Run.lean ====
/-
  The kernel's pipeline as a whole: what each staging buffer holds at each grid step, the body's obligation at a step,
  and the run of the program with its two results named. The index vector's buffer is written at the first step and
  copied out after the last: at the steps between it keeps the vector.
-/
module

public import proofs.«01_k».proof.Proof.Body
public import Idealize.ShloMosaic.Lib.Claim

@[expose] public section

set_option maxRecDepth 16384

noncomputable section

namespace Cert.Proof.Run

open Cert.KernelIdeal Cert.KernelIdeal.Gen Cert.Proof.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body's condition holds at the first point only. -/
theorem cond_iff (t : Fin cfg0.N) : k0_cond1 (grid0.coords t) = 1#1 ↔ t.val = 0 := by
  have ht : t.val < 8 := Nat.lt_of_lt_of_eq t.isLt N_0
  have e0 : (grid0.coords t 0).val = t.val / 1 % 8 := Pipeline.Grid.coords_val t 0 (by decide) rfl
  have h : k0_cond1 (grid0.coords t) = 1#1 ↔ t.val % 8 = 0 := by
    simp only [k0_cond1, e0]
    word_cmp
  rw [h]; omega

/-- The index vector's window is live at the first point, -/
theorem idle5_first (t : Fin cfg0.N) (h : t.val = 0) : cfg0.idle 5 (grid0.coords t) = false := by
  show (!(k0_cond1 (grid0.coords t) == 1#1)) = false
  rw [(cond_iff t).mpr h]; rfl

/-- and idle at every later one. -/
theorem idle5_later (t : Fin cfg0.N) (h : t.val ≠ 0) : cfg0.idle 5 (grid0.coords t) = true := by
  show (!(k0_cond1 (grid0.coords t) == 1#1)) = true
  have : ¬k0_cond1 (grid0.coords t) = 1#1 := fun e => h ((cond_iff t).mp e)
  simp [this]

/-- It is written back at the last point only. -/
theorem flush5_false (t : Fin cfg0.N) (h : t.val ≠ 7) : (cfg0.win 5).flush t = false := by
  have ht : t.val < 8 := Nat.lt_of_lt_of_eq t.isLt N_0
  rw [Bool.eq_false_iff]
  intro e
  have := (flush0_5 t).mp e
  omega

/-- The pipeline's proof data on core `c`: each input's buffer at its block after the body, the output block's at what
    the body computes from the four blocks, the index vector's at the vector; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk (iblk m c 0 t) (iblk m c 1 t) (iblk m c 2 t) (iblk m c 3 t)
    | ⟨5, _⟩ => idxBlk (F := F)
  Φ _ := Pipeline.ΦA spec0 c
  q _ := fullShare
  owed _ := 0

/-- The proof data's arrays are the contents at the region's entry. -/
theorem A_eq (c : Dev nD) (w : Fin cfg0.W) : (dats m 0 c).A w = V m c (Pipeline.arrRef spec0 w) := by
  dsimp only [dats]

/-- What the body leaves in the first input's buffer, -/
theorem after0 (c : Dev nD) (t : Fin cfg0.N) : (dats m 0 c).after 0 t = iblk m c 0 t := by dsimp only [dats]
/-- in the second's, -/
theorem after1 (c : Dev nD) (t : Fin cfg0.N) : (dats m 0 c).after 1 t = iblk m c 1 t := by dsimp only [dats]
/-- in the third's, -/
theorem after2 (c : Dev nD) (t : Fin cfg0.N) : (dats m 0 c).after 2 t = iblk m c 2 t := by dsimp only [dats]
/-- in the fourth's, -/
theorem after3 (c : Dev nD) (t : Fin cfg0.N) : (dats m 0 c).after 3 t = iblk m c 3 t := by dsimp only [dats]
/-- in the output block's, -/
theorem after4 (c : Dev nD) (t : Fin cfg0.N) :
    (dats m 0 c).after 4 t = outBlk (iblk m c 0 t) (iblk m c 1 t) (iblk m c 2 t) (iblk m c 3 t) := by dsimp only [dats]
/-- and in the index vector's. -/
theorem after5 (c : Dev nD) (t : Fin cfg0.N) : (dats m 0 c).after 5 t = idxBlk (F := F) := by dsimp only [dats]

/-- The first input's buffer holds its block when the body runs, -/
theorem before0 (c : Dev nD) (t : Fin cfg0.N) (d) : (dats m 0 c).before 0 t d = iblk m c 0 t :=
  before0_0_of m (dats m 0 c) (A_eq m c 0) (after0 m c) t d
/-- so does the second's, -/
theorem before1 (c : Dev nD) (t : Fin cfg0.N) (d) : (dats m 0 c).before 1 t d = iblk m c 1 t :=
  before0_1_of m (dats m 0 c) (A_eq m c 1) (after1 m c) t d
/-- the third's, -/
theorem before2 (c : Dev nD) (t : Fin cfg0.N) (d) : (dats m 0 c).before 2 t d = iblk m c 2 t :=
  before0_2_of m (dats m 0 c) (A_eq m c 2) (after2 m c) t d
/-- and the fourth's. -/
theorem before3 (c : Dev nD) (t : Fin cfg0.N) (d) : (dats m 0 c).before 3 t d = iblk m c 3 t :=
  before0_3_of m (dats m 0 c) (A_eq m c 3) (after3 m c) t d

/-- After the first point the index vector's buffer holds the vector, whatever it held before the first: the first point
    stored it, no later point touches it and none before the last writes it back. -/
theorem before5 (c : Dev nD) (d) : ∀ (n : ℕ) (h : n + 1 < cfg0.N), (dats m 0 c).before 5 ⟨n + 1, h⟩ d = idxBlk (F := F)
  | 0, h => by
    rw [Dat.before_of_pos (dats m 0 c) 5 ⟨0 + 1, h⟩ (Nat.succ_ne_zero 0) ((cfg0.win 5).fetch_out rfl _) d,
      flush5_false _ (by dsimp only; omega), if_neg Bool.false_ne_true]
    unfold Dat.left
    rw [idle5_first _ rfl]
    rfl
  | n + 1, h => by
    have h8 : n + 1 + 1 < 8 := lt_of_lt_of_eq h (show cfg0.N = 8 from N_0)
    rw [Dat.before_of_pos (dats m 0 c) 5 ⟨n + 1 + 1, h⟩ (Nat.succ_ne_zero _) ((cfg0.win 5).fetch_out rfl _) d,
      flush5_false _ (by dsimp only; omega), if_neg Bool.false_ne_true]
    unfold Dat.left
    rw [idle5_later _ (by dsimp only; omega)]
    exact before5 c d n (by omega)

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- The index vector's buffer at the vector is what the body owes of it after any point: at the first it stored it, at the
    last it is copied out from there, and between it is what the body found. -/
theorem leaves5 (c : Dev nD) (t : Fin cfg0.N) :
    owns (c : Thread nD τ) (st0_5 t) fullShare (idxBlk (F := F)) ⊢ (dats m 0 c).leavesExact 5 t := by
  by_cases h0 : t.val = 0
  · rw [show (dats m 0 c).leavesExact 5 t = owns (c : Thread nD τ) (st0_5 t) fullShare ((dats m 0 c).after 5 t) from by
      unfold Dat.leavesExact; rw [idle5_first t h0], after5]
  · by_cases h7 : t.val = 7
    · rw [show (dats m 0 c).leavesExact 5 t = owns (c : Thread nD τ) (st0_5 t) fullShare ((dats m 0 c).after 5 t) from by
        unfold Dat.leavesExact; rw [idle5_later t h0, (flush0_5 t).mpr (by omega)], after5]
    · rw [Dat.leavesExact_idle _ 5 t (idle5_later t h0) (flush5_false t h7)]
      obtain ⟨n, hn⟩ := t
      obtain ⟨k, rfl⟩ : ∃ k, n = k + 1 := ⟨n - 1, by dsimp only at h0; omega⟩
      iintro H
      iexists (idxBlk (F := F))
      rw [before5]
      iexact H

set_option maxHeartbeats 800000 in
/-- The body at any point: the inputs' buffers hold their blocks, so the step's triple applies, the first point's or a
    later one's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    show (dats m 0 c).leavesExact 0 t = owns (c : Thread nD τ) (st0_0 t) fullShare ((dats m 0 c).after 0 t) from rfl,
    show (dats m 0 c).leavesExact 1 t = owns (c : Thread nD τ) (st0_1 t) fullShare ((dats m 0 c).after 1 t) from rfl,
    show (dats m 0 c).leavesExact 2 t = owns (c : Thread nD τ) (st0_2 t) fullShare ((dats m 0 c).after 2 t) from rfl,
    show (dats m 0 c).leavesExact 3 t = owns (c : Thread nD τ) (st0_3 t) fullShare ((dats m 0 c).after 3 t) from rfl,
    show (dats m 0 c).leavesExact 4 t = owns (c : Thread nD τ) (st0_4 t) fullShare ((dats m 0 c).after 4 t) from rfl,
    after0, after1, after2, after3, after4]
  by_cases h0 : t.val = 0
  · iintro ⟨HΦ, Ho, ⟨%d0, H0⟩, ⟨%d1, H1⟩, ⟨%d2, H2⟩, ⟨%d3, H3⟩, ⟨%d4, H4⟩, ⟨%d5, H5⟩⟩
    iapply (first_step c (grid0.coords t) _ _ _ _ _ _ _ _ _ _ _ _ ((cond_iff t).mpr h0) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iapply (leaves5 m c t)
    iexact H5
  · have hb : ∀ d, (dats m 0 c).before 5 t d = idxBlk (F := F) := fun d => by
      obtain ⟨n, hn⟩ := t
      obtain ⟨k, rfl⟩ : ∃ k, n = k + 1 := ⟨n - 1, by dsimp only at h0; omega⟩
      exact before5 m c d k hn
    simp only [hb]
    iintro ⟨HΦ, Ho, ⟨%d0, H0⟩, ⟨%d1, H1⟩, ⟨%d2, H2⟩, ⟨%d3, H3⟩, ⟨%d4, H4⟩, ⟨%d5, H5⟩⟩
    iapply (later_step c (grid0.coords t) _ _ _ _ _ _ _ _ _ _ _ _ (fun h => h0 ((cond_iff t).mp h)) (iblk m c 0 t) (iblk m c 1 t) (iblk m c 2 t) (iblk m c 3 t) (idxBlk (F := F)) Set.univ _)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iapply (leaves5 m c t)
    iexact H5

/-- The body table's row at point `t`'s slots is the body at that point. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run: every weakly fair execution ends, each array of the pipeline holds what the proof data give after the last
    write-back, every other buffer what the host lines after the region leave, and every counter is zero. -/
theorem run_main : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) ((θ_run defs _ _).mono (fun _ h => h.1) (run_main m ρ))

/-- The frame: the arguments end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main m ρ))

end Cert.Proof.Run

end
-- ==== Proof.Frames.lean ====
/-
  The frame of the kernel as printed: its program is the program with the constant named, read over words where the name
  stands for the constant's own word.
-/
module

public import proofs.«01_k».proof.Defs
public import proofs.«01_k».proof.Proof.Gen.Kernel
public import proofs.«01_k».proof.Proof.Run

@[expose] public section

set_option maxRecDepth 16384

noncomputable section

namespace Cert.Proof.Frames

open Idealize.ShloMosaic Idealize.ShloMosaic.TcCoe Idealize.SL.Sem

/-- Every name read as the word it stands for. -/
abbrev plain : Named Bits := ⟨fun _ _ {φ} bits => Scalar.ofBits φ bits⟩

local instance : Cert.Kernel.Facts := Cert.Kernel.Gen.facts
local instance : Cert.KernelIdeal.Facts := Cert.KernelIdeal.Gen.facts

theorem main_eq : Cert.Kernel.main (F := Bits) = Cert.KernelIdeal.main (F := Bits) := by
  rfl

/-- The two bodies are one, on whatever they are called with. -/
theorem body_apply (i : Cert.Kernel.grid0.Coords)
    (a1 : Memref Cert.Kernel.sig .tc .vmem Cert.Kernel.S1000x2048 .f32) (h1 : a1.IsWhole)
    (a2 : Memref Cert.Kernel.sig .tc .vmem Cert.Kernel.S64x1000 .f32) (h2 : a2.IsWhole)
    (a3 : Memref Cert.Kernel.sig .tc .vmem Cert.Kernel.S1x64 .f32) (h3 : a3.IsWhole)
    (a4 : Memref Cert.Kernel.sig .tc .vmem Cert.Kernel.S1x64 .f32) (h4 : a4.IsWhole)
    (a5 : Memref Cert.Kernel.sig .tc .vmem Cert.Kernel.S64x2048 .f32) (h5 : a5.IsWhole)
    (a6 : Memref Cert.Kernel.sig .tc .vmem Cert.Kernel.S1000 .i32) (h6 : a6.IsWhole) :
    Cert.Kernel.cc0__fused_kernel (F := Bits) i a1 h1 a2 h2 a3 h3 a4 h4 a5 h5 a6 h6
      = (letI := plain; Cert.KernelIdeal.cc0__fused_kernel (F := Bits) i a1 h1 a2 h2 a3 h3 a4 h4 a5 h5 a6 h6) := by
  rfl

/-- So are the two body tables. -/
theorem defs0_eq : Cert.Kernel.defs₀ (F := Bits) = (letI := plain; Cert.KernelIdeal.defs₀ (F := Bits)) := by
  refine congrArg Defs.onTc ?_
  funext l x
  match l, x with
  | ⟨0, _⟩, (t, s) =>
    exact body_apply (Cert.Kernel.grid0.coords t) (Cert.Kernel.win0_0.stage (s 0)) _ (Cert.Kernel.win0_1.stage (s 1)) _
      (Cert.Kernel.win0_2.stage (s 2)) _ (Cert.Kernel.win0_3.stage (s 3)) _ (Cert.Kernel.win0_4.stage (s 4)) _
      (Cert.Kernel.win0_5.stage (s 5)) _

/-- So are the two tables of launches. -/
theorem defs_eq : Cert.Kernel.defs (F := Bits) = (letI := plain; Cert.KernelIdeal.defs (F := Bits)) :=
  congrArg (Pipeline.defs Cert.Kernel.pcfgs) defs0_eq

/-- The kernel as printed terminates with its arguments unchanged and every counter zero. -/
theorem frame : Cert.quiescent_Kernel := by
  intro m ρ _
  rw [defs_eq, main_eq]
  exact (letI := plain; Cert.Proof.Run.frame (F := Bits) m ρ)

end Cert.Proof.Frames

end
-- ==== Proof.Row.lean ====
/-
  One row of the function both programs compute, on the extended reals: the exact GELU of each of the sixty-four products,
  then the row's normalisation, scaled and shifted.
-/
module

public import Idealize.ShloMosaic.Lib.Pointwise

@[expose] public section

noncomputable section

namespace Cert.Proof.Row

open Idealize.ShloMosaic

/-- The number of hidden units, sixty-four, as both programs write it. -/
abbrev width : EReal := Ideal.ofBits .f32 0x42800000#32

/-- The term added to the variance before its root, as both programs write it. -/
abbrev eps : EReal := Ideal.ofBits .f32 0x3727C5AC#32

/-- One half, as both programs write it. -/
abbrev half : EReal := Ideal.ofBits .f32 0x3F000000#32

/-- The exact GELU, one half of `y` times one plus the error function of `y / √2`. -/
def gelu (y : EReal) : EReal := half * y * (1 + Ideal.erf (y * (((Real.sqrt 2)⁻¹ : ℝ) : EReal)))

/-- The mean of a row. -/
def mean (a : Fin 64 → EReal) : EReal := Ideal.div (∑ h, a h) width

/-- The mean of the squared distances of a row from its mean. -/
def variance (a : Fin 64 → EReal) : EReal := Ideal.div (∑ h, (a h - mean a) * (a h - mean a)) width

/-- The row normalised, scaled by `s` and shifted by `b`. -/
def norm (a s b : Fin 64 → EReal) (h : Fin 64) : EReal :=
  Ideal.div (a h - mean a) (Ideal.sqrt (variance a + eps)) * s h + b h

end Cert.Proof.Row

end
-- ==== Proof.Block.lean ====
/-
  What the kernel's grid step computes, read at an index: each column of the block it stores is one row of the function,
  of the products of the table's columns with one row of the input.
-/
module

public import proofs.«01_k».proof.Proof.Body
public import proofs.«01_k».proof.Proof.Row
public import Idealize.ShloMosaic.Lib.Pointwise

@[expose] public section

set_option maxRecDepth 16384

noncomputable section

namespace Cert.Proof.Block

open Cert.KernelIdeal Cert.KernelIdeal.Gen Cert.Proof.Body
open Idealize.ShloMosaic Idealize.ShloMosaic.TcCoe

/-- The kernel's named constant denotes the inverse of the root of two. -/
theorem inv_sqrt_two : Named.named (F := Ideal) Cert.KernelIdeal.κ "inv_sqrt_two" (φ := .f32) 0x3F3504F3#32 = (((Real.sqrt 2)⁻¹ : ℝ) : EReal) :=
  IdealRules.named_const.ideal_named_scalar _ _ _ _ rfl

/-- The products a step forms: column `h` of the table with row `j` of the step's input rows. -/
def prod (x0 : Vec Ideal S1000x2048 .f32) (x1 : Vec Ideal S64x1000 .f32) (j : Fin 2048) (h : Fin 64) : EReal :=
  ∑ k : Fin 1000, x1 (ix2 h k) * x0 (ix2 k j)

/-- The activations of a step at an index. -/
theorem act_apply (x0 : Vec Ideal S1000x2048 .f32) (x1 : Vec Ideal S64x1000 .f32) (h : Fin 64) (j : Fin 2048) :
    k0_pay3 (F := Ideal) x0 x1 (ix2 h j) = Row.gelu (prod x0 x1 j h) := by
  pointwise [k0_pay3, inv_sqrt_two, Row.gelu, prod]
  rfl

/-- The mean of a step's column. -/
theorem mean_apply (x0 : Vec Ideal S1000x2048 .f32) (x1 : Vec Ideal S64x1000 .f32) (i : Fin 1) (j : Fin 2048) :
    k0_pay4 (F := Ideal) x0 x1 (ix2 i j) = Row.mean fun h => Row.gelu (prod x0 x1 j h) := by
  pointwise [k0_pay4, act_apply, Row.mean]

/-- The centred activations at an index. -/
theorem centred_apply (x0 : Vec Ideal S1000x2048 .f32) (x1 : Vec Ideal S64x1000 .f32) (h : Fin 64) (j : Fin 2048) :
    k0_pay7 (F := Ideal) x0 x1 (ix2 h j)
      = Row.gelu (prod x0 x1 j h) - Row.mean fun h => Row.gelu (prod x0 x1 j h) := by
  pointwise [k0_pay7, act_apply, mean_apply]

/-- The deviation at an index. -/
theorem deviation_apply (x0 : Vec Ideal S1000x2048 .f32) (x1 : Vec Ideal S64x1000 .f32) (h : Fin 64) (j : Fin 2048) :
    k0_pay8 (F := Ideal) x0 x1 (ix2 h j)
      = Ideal.sqrt (Row.variance (fun h => Row.gelu (prod x0 x1 j h)) + Row.eps) := by
  pointwise [k0_pay8, act_apply, mean_apply, Row.variance]

/-- The block a step stores, at an index: the normalised row of the products, scaled and shifted. -/
theorem outBlk_apply (x0 : Vec Ideal S1000x2048 .f32) (x1 : Vec Ideal S64x1000 .f32) (x2 x3 : Vec Ideal S1x64 .f32)
    (h : Fin 64) (j : Fin 2048) :
    outBlk (F := Ideal) x0 x1 x2 x3 (ix2 h j)
      = Row.norm (fun h => Row.gelu (prod x0 x1 j h)) (fun h => x2 (ix2 0 h)) (fun h => x3 (ix2 0 h)) h := by
  pointwise [outBlk, k0_pay1, k0_pay5, k0_pay6, centred_apply, deviation_apply, Row.norm]

/-- The index vector, entry `k`, is the word of `k`. -/
theorem idxBlk_apply (k : Fin 1000) : idxBlk (F := Ideal) (ix1 k) = BitVec.ofNat 32 k.val := by
  pointwise [idxBlk, k0_pay2]

end Cert.Proof.Block

end
-- ==== Proof.Value.lean ====
/-
  What the kernel's two results hold after the run, on the extended reals: every row of the first is the function's row of
  the products of the input's row with the table, and the second counts the table's rows.
-/
module

public import proofs.«01_k».proof.Proof.Run
public import proofs.«01_k».proof.Proof.Block
public import Idealize.ShloMosaic.Lib.Pipeline.ValueKit
public import Idealize.ShloMosaic.Lib.StableHlo.ReadAt

@[expose] public section

set_option maxRecDepth 16384

noncomputable section

namespace Cert.Proof.Value

open Cert.KernelIdeal Cert.KernelIdeal.Gen Cert.Proof.Body Cert.Proof.Run
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The function of the four arguments that the kernel computes, at row `r` and hidden unit `h`. -/
def fn (x : FVec Ideal S16384x1000 .f32) (e : FVec Ideal S1000x64 .f32) (s b : FVec Ideal S64 .f32) (r : Fin 16384) (h : Fin 64) : EReal :=
  Row.norm (fun h' => Row.gelu (∑ k : Fin 1000, e (ix2 k h') * x (ix2 r k))) (fun h' => s (ix1 h')) (fun h' => b (ix1 h')) h

/-- The first result as the region leaves it, the hidden units along its rows. -/
def fnT (x : FVec Ideal S16384x1000 .f32) (e : FVec Ideal S1000x64 .f32) (s b : FVec Ideal S64 .f32) : FVec Ideal S64x16384 .f32 :=
  fun i => fn x e s b (i 1) (i 0)

/-- The windows' index maps: the input and the result move one block of columns a step, the others stay. -/
theorem idx : ∀ t : Fin cfg0.N, win0_0.index t = ![0, t.val] ∧ win0_1.index t = ![0, 0] ∧ win0_2.index t = ![0, 0]
    ∧ win0_3.index t = ![0, 0] ∧ win0_4.index t = ![0, t.val] :=
  (by decide +kernel : ∀ t : Fin grid0.N, _)

/-- At the region's entry the input stands transposed, -/
theorem V0_x (c : Dev nD) (k : Fin 1000) (r : Fin 16384) :
    V m c main_call0_v0 (ix2 k r) = m ((c : Thread nD τ).loc main_arg0) (ix2 r k) := by
  unfold V
  after_reads_at

/-- the table too, -/
theorem V0_e (c : Dev nD) (h : Fin 64) (k : Fin 1000) :
    V m c main_call0_v1 (ix2 h k) = m ((c : Thread nD τ).loc main_arg1) (ix2 k h) := by
  unfold V
  after_reads_at

/-- the scale stands as a row, -/
theorem V0_s (c : Dev nD) (h : Fin 64) :
    V m c main_call0_v2 (ix2 0 h) = m ((c : Thread nD τ).loc main_arg2) (ix1 h) := by
  unfold V
  after_reads_at

/-- and the shift does. -/
theorem V0_b (c : Dev nD) (h : Fin 64) :
    V m c main_call0_v3 (ix2 0 h) = m ((c : Thread nD τ).loc main_arg3) (ix1 h) := by
  unfold V
  after_reads_at

/-- What a step stores at an index of its block is the function at the array index the block's element sits at. -/
theorem point (c : Dev nD) (t : Fin cfg0.N) (y) :
    outBlk (iblk m c 0 t) (iblk m c 1 t) (iblk m c 2 t) (iblk m c 3 t) y
      = fnT (m ((c : Thread nD τ).loc main_arg0)) (m ((c : Thread nD τ).loc main_arg1))
          (m ((c : Thread nD τ).loc main_arg2)) (m ((c : Thread nD τ).loc main_arg3)) (((cfg0.win 4).blk t).view.emb y) := by
  idx_vars y
  refine (Block.outBlk_apply _ _ _ _ _ _).trans ?_
  simp only [fnT, fn, Row.norm, Row.mean, Row.variance, Row.gelu, Block.prod]
  blk_point [iblk, idx t]
  · refine Eq.trans ?_ (V0_e m c _ _)
    blk_ext [idx t]
  · refine Eq.trans ?_ (V0_x m c _ _)
    blk_ext [idx t]
  · refine Eq.trans ?_ (V0_e m c _ _)
    blk_ext [idx t]
  · refine Eq.trans ?_ (V0_s m c _)
    blk_ext [idx t]
  · refine Eq.trans ?_ (V0_b m c _)
    blk_ext [idx t]

/-- The first result's array, hidden units along its rows, after the region. -/
theorem final4 (c : Dev nD) : (dats m 0 c).arrAt 4 (cfgs 0).N
    = fnT (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t _ y => ?_
  blk_simp
  rw [after4]
  exact point m c t y

/-- The second result's array after the region: the index vector. -/
theorem final5 (c : Dev nD) : (dats m 0 c).arrAt 5 (cfgs 0).N = (idxBlk (F := Ideal)) := by
  refine (dats m 0 c).arrAt_eq_of_after_last 5 t0_7 (by decide +kernel) _ fun j => ?_
  blk_simp
  rw [after5]

end Cert.Proof.Value

end
-- ==== Proof.Result.lean ====
/-
  The kernel's run with its two results named, on the extended reals.
-/
module

public import proofs.«01_k».proof.Proof.Value

@[expose] public section

set_option maxRecDepth 16384

noncomputable section

namespace Cert.Proof.Result

open Cert.KernelIdeal Cert.KernelIdeal.Gen Cert.Proof.Body Cert.Proof.Run Cert.Proof.Value
open Idealize.ShloMosaic Idealize.ShloMosaic.TcCoe Idealize.SL.Sem

variable (m : (ℓ : Loc nD τ sig) → Buf (Elt Ideal) ℓ) (ρ : Dev nD → PrngReg)

/-- The first result: the function at every row and hidden unit. -/
def out (x : FVec Ideal S16384x1000 .f32) (e : FVec Ideal S1000x64 .f32) (s b : FVec Ideal S64 .f32) : FVec Ideal S16384x64 .f32 :=
  fun i => fn x e s b (i 0) (i 1)

/-- The host's last line turns the region's array round: the first result at an index. -/
theorem tail_apply (c : Dev nD) (i : Fin 16384) (h : Fin 64) :
    Pipeline.afterTail₀ cfgs (dats m) 0 (V0 m) [hostOps1] c main_v0_0 (ix2 i h)
      = (dats m 0 c).arrAt 4 (cfgs 0).N (ix2 h i) := by
  have e := Pipeline.withArrays_arr (cfgs 0).spec launch0.win.arr_inj c (V0 m c) (fun w => (dats m 0 c).arrAt w (cfgs 0).N) 4
  refine Eq.trans ?_ (congrFun e (ix2 h i))
  unfold Pipeline.afterTail₀
  after_reads_at

/-- The run: the first result ends at the function of the arguments, the second at the index vector, the arguments as they
    were. -/
theorem run : θ_run defs (onTc (τ := τ) (main (F := Ideal))) ⟨m, fun _ => 0, ρ⟩ (fun r => ∀ c : Dev nD,
      r.2.mem ((c.tc : Thread nD τ).loc main_v0_0)
          = out (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_v0_1) = (idxBlk (F := Ideal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono ?_ (θ_run_and (unchanged m ρ) (run_main m ρ))
  rintro r ⟨hu, hf, -⟩ c
  refine ⟨?_, ((hf c).1 5).trans (final5 m c), hu c⟩
  refine ((hf c).2 main_v0_0 (Pipeline.mem_restRefs_of main_v0_0 (by decide) (by decide))).trans ?_
  funext i
  idx_vars i
  exact (tail_apply m c _ _).trans (congrFun (final4 m c) _)

end Cert.Proof.Result

end
-- ==== Proof.RefRows.lean ====
/-
  The reference's rows of the table: it gathers the table's rows at the indices 0, 1, …, 999, every one of which is in
  range, so that what it gathers is the table.
-/
module

public import proofs.«01_k».proof.Proof.Gen.ReferenceIdeal
public import Idealize.ShloMosaic.Lib.Pointwise
public import Idealize.ShloMosaic.Lib.Routing.Ops
public import Idealize.ShloMosaic.Lib.Routing.OpsPair
public import Idealize.ShloMosaic.Lib.Tactic.WordOmega

@[expose] public section

set_option maxRecDepth 16384

noncomputable section

namespace Cert.Proof.RefRows

open Cert.ReferenceIdeal Cert.ReferenceIdeal.Gen
open Idealize.ShloMosaic Idealize.ShloMosaic.TcCoe

/-- The indices the reference gathers at, an index below zero moved up by the number of rows. -/
def ids : IVec S1000x1 32 :=
  broadcastInDim S1000x1 ![0] bcast_S1000_S1000x1_0
    (select (cmpi .slt (iotaInDim S1000 32 0) (broadcastInDim S1000 ![] bcast_S_S1000 (constantI S_ 32 0#32)))
      (addi (iotaInDim S1000 32 0) (broadcastInDim S1000 ![] bcast_S_S1000 (constantI S_ 32 1000#32))) (iotaInDim S1000 32 0))

/-- Whether each index names a row of the table. -/
def inRange : IVec S1000 1 :=
  Host.reduce IntOp.andi
    (andi (cmpi .sge ids (broadcastInDim S1000x1 ![] bcast_S_S1000x1 (constantI S_ 32 0#32)))
      (cmpi .sle ids (broadcastInDim S1000x1 ![0, 1] bcast_S1x1_S1000x1_0_1 (broadcastInDim S1x1 ![1] bcast_S1_S1x1_1 (constantI S1 32 999#32)))))
    (constantI S_ 1 1#1) reducesTo_S1000x1_S1000_d1 h_S_

/-- The rows the reference gathers, a row out of range filled with one pattern. -/
def rows (e : FVec Ideal S1000x64 .f32) : FVec Ideal S1000x64 .f32 :=
  select (broadcastInDim S1000x64 ![0] bcast_S1000_S1000x64_0 inRange)
    (Host.gather gather_S1000x64_S1000x1_S1000x64_1_0_n_n_0_1_164 e ids)
    (broadcastInDim S1000x64 ![] bcast_S_S1000x64 (constant S_ .f32 0x7FC00000#32))

/-- Entry `k` of the indices is the word of `k`. -/
theorem ids_apply (k : Fin 1000) (j : Fin 1) : ids (ix2 k j) = BitVec.ofNat 32 k.val := by
  have h := k.isLt
  pointwise [ids]
  exact Routing.wrap_of_lt _ _ (by rw [BitVec.toNat_ofNat]; omega)

/-- Both bounds hold of a row's number. -/
theorem bounds (k : Fin 1000) :
    IntOp.andi (IntOp.cmpi .sge (BitVec.ofNat 32 k.val) 0#32) (IntOp.cmpi .sle (BitVec.ofNat 32 k.val) 999#32) = 1#1 := by
  have h := k.isLt
  word_cmp

/-- Every index names a row. -/
theorem inRange_apply (k : Fin 1000) : inRange (ix1 k) = 1#1 := by
  pointwise [inRange, ids_apply, bounds]
  rfl

/-- What the reference gathers is the table. -/
theorem rows_eq (e : FVec Ideal S1000x64 .f32) (k : Fin 1000) (h : Fin 64) : rows e (ix2 k h) = e (ix2 k h) := by
  have hg : Host.gather gather_S1000x64_S1000x1_S1000x64_1_0_n_n_0_1_164 e ids (ix2 k h) = e (ix2 k h) :=
    Routing.gather_row gather_S1000x64_S1000x1_S1000x64_1_0_n_n_0_1_164 rfl rfl rfl rfl rfl e ids k h k (ids_apply k 0) (by norm_num)
  pointwise [rows, inRange_apply, hg]

end Cert.Proof.RefRows

end
-- ==== Proof.RefValue.lean ====
/-
  The reference's first result, stage by stage, read at an index: the products, their exact GELU by the complementary error
  function, the mean, the variance, and the scaled and shifted quotient.
-/
module

public import proofs.«01_k».proof.Proof.RefRows
public import proofs.«01_k».proof.Proof.Row
public import proofs.«01_k».proof.Proof.Gen.ReferenceIdeal.Run
public import Idealize.ShloMosaic.PureOps.Ideal.Laws

@[expose] public section

set_option maxRecDepth 16384

noncomputable section

namespace Cert.Proof.RefValue

open Cert.ReferenceIdeal Cert.ReferenceIdeal.Gen Cert.Proof.RefRows
open Idealize.ShloMosaic Idealize.ShloMosaic.TcCoe

/-- The products of the input's rows with the table's columns. -/
def prods (x : FVec Ideal S16384x1000 .f32) (e : FVec Ideal S1000x64 .f32) : FVec Ideal S16384x64 .f32 :=
  Host.dotGeneral dot_S16384x1000_S1000x64_S16384x64_1_0_0_1_n_n none x (rows e)

/-- Their exact GELU, by the complementary error function. -/
def acts (v : FVec Ideal S16384x64 .f32) : FVec Ideal S16384x64 .f32 :=
  mulf (mulf (broadcastInDim S16384x64 ![] bcast_S_S16384x64 (constant S_ .f32 0x3F000000#32)) v)
    (Host.erfc (Host.divf (Host.negf v) (broadcastInDim S16384x64 ![] bcast_S_S16384x64 (Host.sqrt (constant S_ .f32 0x40000000#32)))))

/-- The mean of each row, as a column. -/
def means (a : FVec Ideal S16384x64 .f32) : FVec Ideal S16384x1 .f32 :=
  Host.divf
    (broadcastInDim S16384x1 ![0] bcast_S16384_S16384x1_0 (Host.reduceAdd a (constant S_ .f32 0x00000000#32) reducesTo_S16384x64_S16384_d1 h_S_))
    (broadcastInDim S16384x1 ![] bcast_S_S16384x1 (constant S_ .f32 0x42800000#32))

/-- Each element's distance from its row's mean. -/
def centred (a : FVec Ideal S16384x64 .f32) : FVec Ideal S16384x64 .f32 :=
  subf a (broadcastInDim S16384x64 ![0, 1] bcast_S16384x1_S16384x64_0_1 (means a))

/-- The root of each row's variance with the small term added, as a column. -/
def deviations (a : FVec Ideal S16384x64 .f32) : FVec Ideal S16384x1 .f32 :=
  Host.sqrt (addf (means (mulf (centred a) (centred a))) (broadcastInDim S16384x1 ![] bcast_S_S16384x1 (constant S_ .f32 0x3727C5AC#32)))

/-- The rows normalised, scaled and shifted. -/
def normed (a : FVec Ideal S16384x64 .f32) (s b : FVec Ideal S64 .f32) : FVec Ideal S16384x64 .f32 :=
  addf
    (mulf (Host.divf (centred a) (broadcastInDim S16384x64 ![0, 1] bcast_S16384x1_S16384x64_0_1 (deviations a)))
      (broadcastInDim S16384x64 ![0, 1] bcast_S1x64_S16384x64_0_1 (broadcastInDim S1x64 ![1] bcast_S64_S1x64_1 s)))
    (broadcastInDim S16384x64 ![0, 1] bcast_S1x64_S16384x64_0_1 (broadcastInDim S1x64 ![1] bcast_S64_S1x64_1 b))

set_option maxHeartbeats 1000000 in
/-- The reference's run leaves these stages, composed. -/
theorem term_eq (m : (ℓ : Loc nD τ sig) → Buf (Elt Ideal) ℓ) (c : Dev nD) :
    Cert.ReferenceIdeal.Value.res_main_v34 m c
      = normed (acts (prods (m ((c.tc : Thread nD τ).loc main_arg0)) (m ((c.tc : Thread nD τ).loc main_arg1))))
          (m ((c.tc : Thread nD τ).loc main_arg2)) (m ((c.tc : Thread nD τ).loc main_arg3)) := by
  unfold Cert.ReferenceIdeal.Value.res_main_v34 normed deviations centred means acts prods rows inRange ids
  rfl

/-- A product at an index. -/
theorem prods_apply (x : FVec Ideal S16384x1000 .f32) (e : FVec Ideal S1000x64 .f32) (r : Fin 16384) (h : Fin 64) :
    prods x e (ix2 r h) = ∑ k : Fin 1000, x (ix2 r k) * e (ix2 k h) := by
  pointwise [prods, rows_eq]

/-- The pattern of `2.0` denotes the real two. -/
theorem ofBits_two : Ideal.ofBits .f32 0x40000000#32 = ((2 : ℝ) : EReal) := by
  simp [Ideal.ofBits, Ideal.ieee, -EReal.coe_mul]; norm_num

/-- One half of `y` times the complementary error function of `-y / √2` is the exact GELU of `y`. -/
theorem gelu_eq (y : EReal) :
    Row.half * y * Ideal.erfc (Ideal.div (-y) (Ideal.sqrt (Ideal.ofBits .f32 0x40000000#32))) = Row.gelu y := by
  rw [ofBits_two, Ideal.sqrt_coe, if_neg (by norm_num : ¬(2 : ℝ) < 0),
    Ideal.div_coe (show Real.sqrt 2 ≠ 0 from (Real.sqrt_pos.mpr (by norm_num)).ne'), one_div, neg_mul, Ideal.erfc_neg]
  rfl

/-- An activation at an index. -/
theorem acts_apply (v : FVec Ideal S16384x64 .f32) (r : Fin 16384) (h : Fin 64) :
    acts v (ix2 r h) = Row.gelu (v (ix2 r h)) := by
  refine Eq.trans ?_ (gelu_eq _)
  pointwise [acts]

/-- A mean at an index. -/
theorem means_apply (a : FVec Ideal S16384x64 .f32) (r : Fin 16384) (j : Fin 1) :
    means a (ix2 r j) = Row.mean fun h => a (ix2 r h) := by
  pointwise [means, Row.mean]

/-- A centred element at an index. -/
theorem centred_apply (a : FVec Ideal S16384x64 .f32) (r : Fin 16384) (h : Fin 64) :
    centred a (ix2 r h) = a (ix2 r h) - Row.mean fun h => a (ix2 r h) := by
  pointwise [centred, means_apply]

/-- A deviation at an index. -/
theorem deviations_apply (a : FVec Ideal S16384x64 .f32) (r : Fin 16384) (j : Fin 1) :
    deviations a (ix2 r j) = Ideal.sqrt (Row.variance (fun h => a (ix2 r h)) + Row.eps) := by
  pointwise [deviations, means_apply, centred_apply, Row.variance]
  rfl

/-- The result at an index: the row's function, of the row of products. -/
theorem result_apply (x : FVec Ideal S16384x1000 .f32) (e : FVec Ideal S1000x64 .f32) (s b : FVec Ideal S64 .f32)
    (r : Fin 16384) (h : Fin 64) :
    normed (acts (prods x e)) s b (ix2 r h)
      = Row.norm (fun h => Row.gelu (∑ k : Fin 1000, x (ix2 r k) * e (ix2 k h))) (fun h => s (ix1 h)) (fun h => b (ix1 h)) h := by
  pointwise [normed, centred_apply, deviations_apply, acts_apply, prods_apply, Row.norm]

end Cert.Proof.RefValue

end
-- ==== Proof.Claims.lean ====
/-
  The certificate's claims: the frames of the three programs, the named constant, and the equation of the kernel's two
  results with the reference's.
-/
module

public import proofs.«01_k».proof.Defs
public import proofs.«01_k».proof.Proof.Frames
public import proofs.«01_k».proof.Proof.Result
public import proofs.«01_k».proof.Proof.RefValue
public import Idealize.ShloMosaic.Lib.Quiescent

@[expose] public section

set_option maxRecDepth 16384

noncomputable section

open Idealize.ShloMosaic Idealize.ShloMosaic.TcCoe Idealize.SL.Sem

namespace Cert.Proof.Claims

/-- The kernel terminates with its arguments unchanged. -/
theorem frame_p : Cert.quiescent_Kernel := Frames.frame

/-- So does the kernel with its constant named. -/
theorem frame_pi : Cert.quiescent_KernelIdeal := fun m ρ _ => Cert.Proof.Run.frame m ρ

/-- So does the reference. -/
theorem frame_ri : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- The kernel's constant is the value its name is given, the inverse of the root of two. -/
theorem preserves : Cert.preserves_Kernel_KernelIdeal :=
  IdealRules.named_const.statement Cert.KernelIdeal.κ "inv_sqrt_two" .f32 0x3F3504F3#32 (((Real.sqrt 2)⁻¹ : ℝ) : EReal) rfl

/-- The first results agree: both are the row's function, of products whose factors stand in either order. -/
theorem out_eq (x : FVec Ideal Cert.KernelIdeal.S16384x1000 .f32) (e : FVec Ideal Cert.KernelIdeal.S1000x64 .f32)
    (s b : FVec Ideal Cert.KernelIdeal.S64 .f32) :
    RefValue.normed (RefValue.acts (RefValue.prods x e)) s b = Result.out x e s b := by
  funext i
  idx_vars i
  have hp : (fun h => Row.gelu (∑ k : Fin 1000, x (ix2 i0 k) * e (ix2 k h))) = fun h => Row.gelu (∑ k : Fin 1000, e (ix2 k h) * x (ix2 i0 k)) :=
    funext fun h => congrArg Row.gelu (Finset.sum_congr rfl fun k _ => mul_comm _ _)
  refine (RefValue.result_apply x e s b i0 i1).trans ?_
  rw [hp]
  rfl

/-- The second results agree: entry `k` of both is the word of `k`. -/
theorem idx_eq : iotaInDim Cert.ReferenceIdeal.S1000 32 0 = Body.idxBlk (F := Ideal) := by
  funext i
  idx_vars i
  exact (Block.idxBlk_apply _).symm

/-- From equal arguments the kernel and the reference end with equal results, their arguments unchanged. -/
theorem algebraic : Cert.algebraic_KernelIdeal_ReferenceIdeal := by
  intro m ρ m' ρ' _ hagree
  refine ⟨_, _, Cert.Proof.Result.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [RefValue.term_eq, (hagree c).1, (hagree c).2.1, (hagree c).2.2.1, (hagree c).2.2.2]
    exact out_eq _ _ _ _
  · exact idx_eq

end Cert.Proof.Claims

end
-- ==== Proof.lean ====
/-
  The certificate's claim, assembled from its parts (Proof/Claims.lean): the frames of the kernel, of the kernel with its
  constant named and of the reference, the named constant, and the equation of the two results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Everything the certificate claims holds. -/
theorem claim : Cert.Claim :=
  ⟨Cert.Kernel.Gen.facts, Cert.KernelIdeal.Gen.facts, Cert.ReferenceIdeal.Gen.facts,
    Claims.frame_p, Claims.frame_pi, Claims.frame_ri, Claims.preserves, Claims.algebraic⟩

end Cert.Proof

end
